-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x1024x256 : Shape := ⟨3, ![4, 1024, 256]⟩
abbrev S4x256x256 : Shape := ⟨3, ![4, 256, 256]⟩
abbrev S256 : Shape := ⟨1, ![256]⟩
abbrev S_ : Shape := ⟨0, ![]⟩

class Facts : Prop where
  bcast_S_S4x1024x256 : S_.BroadcastsInDim S4x1024x256 (![] : Fin 0 → Fin S4x1024x256.rank)

variable [Facts]

def fn {F : FTy → Type} [FloatOps F] (main_arg0 : FVec F S4x1024x256 .f32) (main_arg1 : FVec F S4x1024x256 .f32) (main_arg2 : FVec F S4x256x256 .f32) (main_arg3 : FVec F S256 .f32) (main_arg4 : FVec F S256 .f32) : IVec S4x1024x256 1 :=
  let main_v0 : FVec F S4x1024x256 .f32 := Host.absf main_arg0
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  main_v2
-- ==== Kernel.lean ====
abbrev S4x1024x256 : Shape := ⟨3, ![4, 1024, 256]⟩
abbrev S4x256x256 : Shape := ⟨3, ![4, 256, 256]⟩
abbrev S256 : Shape := ⟨1, ![256]⟩
abbrev S1x256 : Shape := ⟨2, ![1, 256]⟩
abbrev S4 : Shape := ⟨1, ![4]⟩
abbrev S4x1x1 : Shape := ⟨3, ![4, 1, 1]⟩
abbrev S256x256 : Shape := ⟨2, ![256, 256]⟩
abbrev S4x256 : Shape := ⟨2, ![4, 256]⟩
abbrev S4x256x1 : Shape := ⟨3, ![4, 256, 1]⟩
abbrev S1x256x256 : Shape := ⟨3, ![1, 256, 256]⟩
abbrev S1x1x256 : Shape := ⟨3, ![1, 1, 256]⟩

abbrev nBuf : Space → Nat
  | .hbm => 9
  | .vmem => 10
  | .smem => 0
  | _ => 0

abbrev bufTy : (tb : Table) → Fin (tcTables nBuf tb) → BufTy
  | .hbm, ⟨0, _⟩ => ⟨S4x1024x256, .f32⟩
  | .hbm, ⟨1, _⟩ => ⟨S4x1024x256, .f32⟩
  | .hbm, ⟨2, _⟩ => ⟨S4x256x256, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S4x1024x256, .f32⟩
  | .hbm, ⟨8, _⟩ => ⟨S4x256x256, .f32⟩
  | .local _ .vmem, ⟨0, _⟩ => ⟨S4x256x256, .f32⟩
  | .local _ .vmem, ⟨1, _⟩ => ⟨S4x256x256, .f32⟩
  | .local _ .vmem, ⟨2, _⟩ => ⟨S4x256x256, .f32⟩
  | .local _ .vmem, ⟨3, _⟩ => ⟨S4x256x256, .f32⟩
  | .local _ .vmem, ⟨4, _⟩ => ⟨S4x256x256, .f32⟩
  | .local _ .vmem, ⟨5, _⟩ => ⟨S1x256, .f32⟩
  | .local _ .vmem, ⟨6, _⟩ => ⟨S1x256, .f32⟩
  | .local _ .vmem, ⟨7, _⟩ => ⟨S4x256x256, .f32⟩
  | .local _ .vmem, ⟨8, _⟩ => ⟨S4x256x256, .f32⟩
  | .local _ .vmem, ⟨9, _⟩ => ⟨S4x256x256, .f32⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== ReferenceIdeal.lean ====
abbrev S4x1024x256 : Shape := ⟨3, ![4, 1024, 256]⟩
abbrev S4x256x256 : Shape := ⟨3, ![4, 256, 256]⟩
abbrev S256 : Shape := ⟨1, ![256]⟩
abbrev S1024x4x256 : Shape := ⟨3, ![1024, 4, 256]⟩
abbrev S_ : Shape := ⟨0, ![]⟩
abbrev S1x4x256 : Shape := ⟨3, ![1, 4, 256]⟩
abbrev S4x256 : Shape := ⟨2, ![4, 256]⟩
abbrev S4x256x1 : Shape := ⟨3, ![4, 256, 1]⟩
abbrev S4x1x256 : Shape := ⟨3, ![4, 1, 256]⟩
abbrev S4 : Shape := ⟨1, ![4]⟩
abbrev S4x1x1 : Shape := ⟨3, ![4, 1, 1]⟩
abbrev S1x256 : Shape := ⟨2, ![1, 256]⟩

abbrev nBuf : Space → Nat
  | .hbm => 59
  | .vmem => 0
  | .smem => 0
  | _ => 0

abbrev bufTy : (tb : Table) → Fin (tcTables nBuf tb) → BufTy
  | .hbm, ⟨0, _⟩ => ⟨S4x1024x256, .f32⟩
  | .hbm, ⟨1, _⟩ => ⟨S4x1024x256, .f32⟩
  | .hbm, ⟨2, _⟩ => ⟨S4x256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1024x4x256, .f32⟩
  | .hbm, ⟨7, _⟩ => ⟨S1024x4x256, .f32⟩
  | .hbm, ⟨8, _⟩ => ⟨S_, .f32⟩
  | .hbm, ⟨9, _⟩ => ⟨S1024x4x256, .f32⟩
  | .hbm, ⟨10, _⟩ => ⟨S_, .i32⟩
  | .hbm, ⟨11, _⟩ => ⟨S1024x4x256, .f32⟩
  | .hbm, ⟨12, _⟩ => ⟨S1024x4x256, .f32⟩
  | .hbm, ⟨13, _⟩ => ⟨S256, .f32⟩
  | .hbm, ⟨14, _⟩ => ⟨S256, .f32⟩
  | .hbm, ⟨15, _⟩ => ⟨S_, .i32⟩
  | .hbm, ⟨16, _⟩ => ⟨S4x256x256, .f32⟩
  | .hbm, ⟨17, _⟩ => ⟨S1024x4x256, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x4x256, .f32⟩
  | .hbm, ⟨23, _⟩ => ⟨S4x256, .f32⟩
  | .hbm, ⟨24, _⟩ => ⟨S_, .i32⟩
  | .hbm, ⟨25, _⟩ => ⟨S_, .i32⟩
  | .hbm, ⟨26, _⟩ => ⟨S1x4x256, .f32⟩
  | .hbm, ⟨27, _⟩ => ⟨S4x256, .f32⟩
  | .hbm, ⟨28, _⟩ => ⟨S4x256x1, .f32⟩
  | .hbm, ⟨29, _⟩ => ⟨S4x1x256, .f32⟩
  | .hbm, ⟨30, _⟩ => ⟨S4x256x256, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S4x256x256, .f32⟩
  | .hbm, ⟨35, _⟩ => ⟨S_, .f32⟩
  | .hbm, ⟨36, _⟩ => ⟨S4, .f32⟩
  | .hbm, ⟨37, _⟩ => ⟨S4x1x1, .f32⟩
  | .hbm, ⟨38, _⟩ => ⟨S4x1x1, .f32⟩
  | .hbm, ⟨39, _⟩ => ⟨S_, .f32⟩
  | .hbm, ⟨40, _⟩ => ⟨S4x1x1, .f32⟩
  | .hbm, ⟨41, _⟩ => ⟨S4x1x1, .f32⟩
  | .hbm, ⟨42, _⟩ => ⟨S4x256x256, .f32⟩
  | .hbm, ⟨43, _⟩ => ⟨S4x256x256, .f32⟩
  | .hbm, ⟨44, _⟩ => ⟨S4x256, .f32⟩
  | .hbm, ⟨45, _⟩ => ⟨S1x256, .f32⟩
  | .hbm, ⟨46, _⟩ => ⟨S4x256, .f32⟩
  | .hbm, ⟨47, _⟩ => ⟨S4x256, .f32⟩
  | .hbm, ⟨48, _⟩ => ⟨S4x256, .f32⟩
  | .hbm, ⟨49, _⟩ => ⟨S1x256, .f32⟩
  | .hbm, ⟨50, _⟩ => ⟨S4x256, .f32⟩
  | .hbm, ⟨51, _⟩ => ⟨S4x256, .f32⟩
  | .hbm, ⟨52, _⟩ => ⟨S1x4x256, .f32⟩
  | .hbm, ⟨53, _⟩ => ⟨S_, .i32⟩
  | .hbm, ⟨54, _⟩ => ⟨S_, .i32⟩
  | .hbm, ⟨55, _⟩ => ⟨S1024x4x256, .f32⟩
  | .hbm, ⟨56, _⟩ => ⟨S_, .i32⟩
  | .hbm, ⟨57, _⟩ => ⟨S_, .i32⟩
  | .hbm, ⟨58, _⟩ => ⟨S4x1024x256, .f32⟩
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_while0c_c_6 : Ref sig .tc := ⟨.hbm, 18, rfl⟩
abbrev main_while0c_v6 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v6 : Ref sig .tc := ⟨.hbm, 23, rfl⟩
abbrev main_while0b_call1_c : Ref sig .tc := ⟨.hbm, 24, rfl⟩
abbrev main_while0b_call1_c_0 : Ref sig .tc := ⟨.hbm, 25, rfl⟩
abbrev main_while0b_call1_v0 : Ref sig .tc := ⟨.hbm, 26, rfl⟩
abbrev main_while0b_v7 : Ref sig .tc := ⟨.hbm, 27, rfl⟩
abbrev main_while0b_v8 : Ref sig .tc := ⟨.hbm, 28, rfl⟩
abbrev main_while0b_v9 : Ref sig .tc := ⟨.hbm, 29, rfl⟩
abbrev main_while0b_v10 : Ref sig .tc := ⟨.hbm, 30, rfl⟩
abbrev main_while0b_v11 : Ref sig .tc := ⟨.hbm, 31, rfl⟩
abbrev main_while0b_v12 : Ref sig .tc := ⟨.hbm, 32, rfl⟩
abbrev main_while0b_v13 : Ref sig .tc := ⟨.hbm, 33, rfl⟩
abbrev main_while0b_v14 : Ref sig .tc := ⟨.hbm, 34, rfl⟩
abbrev main_while0b_cst_6 : Ref sig .tc := ⟨.hbm, 35, rfl⟩
abbrev main_while0b_v15 : Ref sig .tc := ⟨.hbm, 36, rfl⟩
abbrev main_while0b_v16 : Ref sig .tc := ⟨.hbm, 37, rfl⟩
abbrev main_while0b_v17 : Ref sig .tc := ⟨.hbm, 38, rfl⟩
abbrev main_while0b_cst_7 : Ref sig .tc := ⟨.hbm, 39, rfl⟩
abbrev main_while0b_v18 : Ref sig .tc := ⟨.hbm, 40, rfl⟩
abbrev main_while0b_v19 : Ref sig .tc := ⟨.hbm, 41, rfl⟩
abbrev main_while0b_v20 : Ref sig .tc := ⟨.hbm, 42, rfl⟩
abbrev main_while0b_v21 : Ref sig .tc := ⟨.hbm, 43, rfl⟩
abbrev main_while0b_v22 : Ref sig .tc := ⟨.hbm, 44, rfl⟩
abbrev main_while0b_v23 : Ref sig .tc := ⟨.hbm, 45, rfl⟩
abbrev main_while0b_v24 : Ref sig .tc := ⟨.hbm, 46, rfl⟩
abbrev main_while0b_v25 : Ref sig .tc := ⟨.hbm, 47, rfl⟩
abbrev main_while0b_v26 : Ref sig .tc := ⟨.hbm, 48, rfl⟩
abbrev main_while0b_v27 : Ref sig .tc := ⟨.hbm, 49, rfl⟩
abbrev main_while0b_v28 : Ref sig .tc := ⟨.hbm, 50, rfl⟩
abbrev main_while0b_v29 : Ref sig .tc := ⟨.hbm, 51, rfl⟩
abbrev main_while0b_call2_v0 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_v30 : Ref sig .tc := ⟨.hbm, 55, rfl⟩
abbrev main_while0b_c_8 : Ref sig .tc := ⟨.hbm, 56, rfl⟩
abbrev main_while0b_v31 : Ref sig .tc := ⟨.hbm, 57, rfl⟩
abbrev main_v5 : Ref sig .tc := ⟨.hbm, 58, rfl⟩

abbrev nD : Nat := 1
abbrev τ : Topo := Topo.v7x

variable {F : FTy → Type} [FloatOps F]

abbrev main_while0_count : Scf.Loop 32 := ⟨0#32, 1024#32, 1#32⟩
-- ==== Proof.RealState.lean ====
/-
  Identities over the real numbers.  A square table `p` is updated by adding the rank-one products of a
  sequence of rows `k 0, k 1, …`.  This file relates the sum of squares of the updated table, and its product
  with a vector, to sums that use only the table before the updates and the inner products of the rows.
-/
module

public import Mathlib.Data.Real.Basic
public import Mathlib.Algebra.BigOperators.Ring.Finset
public import Mathlib.Algebra.BigOperators.Fin
public import Mathlib.Tactic.Ring
public import Mathlib.Tactic.Linarith

@[expose] public section

noncomputable section

namespace Cert.RealState

open Finset

variable {ι : Type} [Fintype ι]

/-- The table after the first `n` rank-one updates. -/
def upd (p : ι → ι → ℝ) (k : ℕ → ι → ℝ) (n : ℕ) (i j : ι) : ℝ :=
  p i j + ∑ s ∈ range n, k s i * k s j

/-- The inner product of rows `s` and `u`. -/
def gram (k : ℕ → ι → ℝ) (s u : ℕ) : ℝ := ∑ i, k s i * k u i

/-- The quadratic form of the table `p` at row `s`. -/
def quad (p : ι → ι → ℝ) (k : ℕ → ι → ℝ) (s : ℕ) : ℝ := ∑ j, (∑ i, k s i * p j i) * k s j

/-- The increase of the sum of squares that row `s` causes. -/
def incr (p : ι → ι → ℝ) (k : ℕ → ι → ℝ) (s : ℕ) : ℝ :=
  2 * quad p k s + (∑ u ∈ range s, 2 * (gram k s u * gram k s u) + gram k s s * gram k s s)

/-- One more update adds one more rank-one product. -/
theorem upd_succ (p : ι → ι → ℝ) (k : ℕ → ι → ℝ) (n : ℕ) (i j : ι) :
    upd p k (n + 1) i j = upd p k n i j + k n i * k n j := by
  unfold upd; rw [sum_range_succ, add_assoc]

/-- The quadratic form of the updated table at row `n`: the form of the table before the updates, plus the
    squared inner products of row `n` with the rows added so far. -/
theorem quad_upd (p : ι → ι → ℝ) (k : ℕ → ι → ℝ) (n : ℕ) :
    ∑ i, ∑ j, upd p k n i j * (k n i * k n j) = quad p k n + ∑ u ∈ range n, gram k n u * gram k n u := by
  have h1 : ∀ u, gram k n u * gram k n u = ∑ i, ∑ j, (k u i * k u j) * (k n i * k n j) := by
    intro u
    unfold gram
    rw [sum_mul_sum]
    exact sum_congr rfl fun i _ => sum_congr rfl fun j _ => by ring
  have h2 : quad p k n = ∑ i, ∑ j, p i j * (k n i * k n j) := by
    unfold quad
    refine sum_congr rfl fun i _ => ?_
    rw [sum_mul]
    exact sum_congr rfl fun j _ => by ring
  simp only [h1, h2]
  rw [sum_comm (s := range n), ← sum_add_distrib]
  refine sum_congr rfl fun i _ => ?_
  rw [sum_comm (s := range n), ← sum_add_distrib]
  refine sum_congr rfl fun j _ => ?_
  unfold upd
  rw [add_mul, sum_mul]

/-- The sum of squares of the table after `n` updates is the sum of squares before them plus the rows' increases. -/
theorem sum_sq_upd (p : ι → ι → ℝ) (k : ℕ → ι → ℝ) (n : ℕ) :
    ∑ i, ∑ j, upd p k n i j * upd p k n i j = (∑ i, ∑ j, p i j * p i j) + ∑ s ∈ range n, incr p k s := by
  induction n with
  | zero => simp [upd]
  | succ n ih =>
    have e : ∀ i j, upd p k (n + 1) i j * upd p k (n + 1) i j
        = upd p k n i j * upd p k n i j
          + (2 * (upd p k n i j * (k n i * k n j)) + (k n i * k n i) * (k n j * k n j)) := by
      intro i j; rw [upd_succ]; ring
    simp only [e, sum_add_distrib, ← mul_sum]
    rw [quad_upd, ih, sum_range_succ, add_assoc, add_right_inj]
    have h3 : ∑ i, k n i * k n i * ∑ j, k n j * k n j = gram k n n * gram k n n := by
      unfold gram; rw [sum_mul]
    have h4 : incr p k n = 2 * quad p k n + (2 * (∑ u ∈ range n, gram k n u * gram k n u) + gram k n n * gram k n n) := by
      unfold incr; rw [mul_sum]
    rw [h3, h4]
    ring

/-- The updated table applied to a vector `q`: the old table applied to it, plus each added row scaled by its
    inner product with `q`. -/
theorem upd_apply (p : ι → ι → ℝ) (k : ℕ → ι → ℝ) (q : ι → ℝ) (n : ℕ) (i : ι) :
    ∑ j, upd p k n i j * q j = (∑ j, q j * p i j) + ∑ s ∈ range n, (∑ j, q j * k s j) * k s i := by
  have e : ∀ j, upd p k n i j * q j = q j * p i j + ∑ s ∈ range n, q j * k s j * k s i := by
    intro j
    unfold upd
    rw [add_mul, sum_mul, mul_comm (p i j)]
    exact congrArg _ (sum_congr rfl fun s _ => by ring)
  simp only [e, sum_add_distrib]
  rw [sum_comm]
  exact congrArg _ (sum_congr rfl fun s _ => by rw [sum_mul])

end Cert.RealState

end
-- ==== Proof.RealEntries.lean ====
/-
  Which entries of a sum over the extended reals are real numbers: a sum is real only when every summand is, a
  square is real only when its root is; and a sum of squares that is not real is plus infinity.
-/
module

public import Idealize.ShloMosaic.PureOps.Ideal

@[expose] public section

noncomputable section

namespace Cert.RealEntries

open Finset Idealize.ShloMosaic

/-- An extended real that is a real number. -/
def IsReal (x : EReal) : Prop := ∃ r : ℝ, x = (r : EReal)

/-- A real number is real. -/
theorem isReal_coe (r : ℝ) : IsReal (r : EReal) := ⟨r, rfl⟩

/-- An extended real that is not real is one of the two infinities. -/
theorem not_isReal {x : EReal} (h : ¬IsReal x) : x = ⊤ ∨ x = ⊥ := by
  induction x using EReal.rec with
  | bot => exact .inr rfl
  | coe r => exact absurd ⟨r, rfl⟩ h
  | top => exact .inl rfl

/-- An extended real below plus infinity and above minus infinity is real. -/
theorem isReal_of_ne {x : EReal} (ht : x ≠ ⊤) (hb : x ≠ ⊥) : IsReal x := by
  by_contra h
  exact (not_isReal h).elim ht hb

/-- A real number is not plus infinity. -/
theorem IsReal.ne_top {x : EReal} (h : IsReal x) : x ≠ ⊤ := by
  obtain ⟨r, rfl⟩ := h; exact EReal.coe_ne_top r

/-- A real number is not minus infinity. -/
theorem IsReal.ne_bot {x : EReal} (h : IsReal x) : x ≠ ⊥ := by
  obtain ⟨r, rfl⟩ := h; exact EReal.coe_ne_bot r

/-- A real sum of two has two real terms. -/
theorem isReal_add {x y : EReal} (h : IsReal (x + y)) : IsReal x ∧ IsReal y := by
  obtain ⟨r, hr⟩ := h
  induction x using EReal.rec <;> induction y using EReal.rec <;>
    first
    | exact ⟨isReal_coe _, isReal_coe _⟩
    | (exfalso; simp at hr)

/-- A real finite sum has real terms only. -/
theorem isReal_sum {α : Type} {s : Finset α} {f : α → EReal} (h : IsReal (∑ a ∈ s, f a)) {a : α} (ha : a ∈ s) :
    IsReal (f a) := by
  classical
  rw [← add_sum_erase s f ha] at h
  exact (isReal_add h).1

/-- A real square has a real root. -/
theorem isReal_of_sq {x : EReal} (h : IsReal (x * x)) : IsReal x := by
  obtain ⟨r, hr⟩ := h
  induction x using EReal.rec with
  | bot => exfalso; simp at hr
  | coe r => exact isReal_coe r
  | top => exfalso; simp at hr

/-- A square is not negative. -/
theorem sq_nonneg' (x : EReal) : 0 ≤ x * x := by
  induction x using EReal.rec with
  | bot => simp
  | coe r => exact_mod_cast mul_self_nonneg r
  | top => simp

/-- A sum of two-index squares that is not real is plus infinity. -/
theorem sum_sq_eq_top {ι : Type} [Fintype ι] {f : ι → ι → EReal} (h : ¬IsReal (∑ i, ∑ j, f i j * f i j)) :
    ∑ i, ∑ j, f i j * f i j = ⊤ := by
  refine (not_isReal h).resolve_right fun hb => ?_
  have h0 : 0 ≤ ∑ i, ∑ j, f i j * f i j := sum_nonneg fun i _ => sum_nonneg fun j _ => sq_nonneg' _
  rw [hb] at h0
  exact absurd h0 (by simp)

/-- The sum of real numbers, taken over the extended reals, is their real sum. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [sum_insert ha, sum_insert ha, EReal.coe_add, ih]

/-- Dividing by either infinity gives zero. -/
theorem div_infinite {x y : EReal} (h : y = ⊤ ∨ y = ⊥) : Ideal.div x y = 0 := by
  rcases h with rfl | rfl <;> simp [Ideal.div]

/-- The root of an infinity, with a real number added, is an infinity. -/
theorem sqrt_add_infinite {x : EReal} (e : ℝ) (h : ¬IsReal x) : Ideal.sqrt x + (e : EReal) = ⊤ ∨ Ideal.sqrt x + (e : EReal) = ⊥ := by
  rcases not_isReal h with rfl | rfl
  · left; simp
  · right; simp

end Cert.RealEntries

end
-- ==== Proof.RowTerms.lean ====
/-
  The two ways to compute one output entry, as formulas over the extended reals.

  `stateAt P κ n` is the state: the table `P` after the rank-one products of the rows `κ 0, …, κ (n - 1)`.
  `seqOut` is the entry as the step-by-step computation has it: it normalises the state that includes row `r`
  and applies it to the query.  `chunkOut` is the entry as the chunked computation has it: from the table at the
  start of the chunk and masked sums over the chunk's rows.
-/
module

public import Idealize.ShloMosaic.PureOps.Ideal

@[expose] public section

noncomputable section

namespace Cert.RowTerms

open Finset Idealize.ShloMosaic

variable {ι : Type} [Fintype ι]

/-- The state after the first `n` rows. -/
def stateAt (P : ι → ι → EReal) (κ : ℕ → ι → EReal) (n : ℕ) (i j : ι) : EReal :=
  P i j + ∑ s ∈ range n, κ s i * κ s j

/-- The sum of squares of a table. -/
def sqSum (P : ι → ι → EReal) : EReal := ∑ i, ∑ j, P i j * P i j

/-- The inner product of two vectors. -/
def rowInner (x y : ι → EReal) : EReal := ∑ i, x i * y i

/-- The step-by-step entry: the normalised table `S` applied to the query, gated. -/
def seqOut (S : ι → ι → EReal) (q : ι → EReal) (e g o : EReal) (i : ι) : EReal :=
  Ideal.tanh (g * ∑ j, Ideal.div (S i j) (Ideal.sqrt (sqSum S) + e) * q j) * o

/-- The increase of the sum of squares that row `s` of the chunk causes, over the chunk's `N` rows. -/
def rowIncr (P : ι → ι → EReal) (κ : ℕ → ι → EReal) (N : ℕ) (s : Fin N) : EReal :=
  2 * (∑ j, (∑ i, κ s i * P j i) * κ s j)
    + ∑ u : Fin N, (rowInner (κ s) (κ u) * rowInner (κ s) (κ u)) * (if u < s then 2 else if u = s then 1 else 0)

/-- The chunked sum of squares at row `r`: the table's at the chunk's start, plus the rows' increases up to `r`. -/
def chunkSq (P : ι → ι → EReal) (κ : ℕ → ι → EReal) (N : ℕ) (r : Fin N) : EReal :=
  sqSum P + ∑ s : Fin N, (if s ≤ r then 1 else 0) * rowIncr P κ N s

/-- The chunked numerator at row `r`: the query against the table, plus the masked products with the chunk's rows. -/
def chunkNum (P : ι → ι → EReal) (κ : ℕ → ι → EReal) (q : ι → EReal) (N : ℕ) (r : Fin N) (i : ι) : EReal :=
  (∑ j, q j * P i j) + ∑ s : Fin N, (if s ≤ r then rowInner q (κ s) else 0) * κ s i

/-- The chunked entry at row `r`. -/
def chunkOut (P : ι → ι → EReal) (κ : ℕ → ι → EReal) (q : ι → EReal) (e g o : EReal) (N : ℕ) (r : Fin N) (i : ι) : EReal :=
  Ideal.tanh (chunkNum P κ q N r i * Ideal.div 1 (Ideal.sqrt (chunkSq P κ N r) + e) * g) * o

end Cert.RowTerms

end
-- ==== Proof.RowEquation.lean ====
/-
  The chunked entry and the step-by-step entry are equal whenever the query is real.  Where every number that
  enters is real, both are the same real expression; where one is infinite, both normalisers are infinite and
  both entries are the gate at zero.
-/
module

public import proofs.«01_k».proof.Proof.RealState
public import proofs.«01_k».proof.Proof.RealEntries
public import proofs.«01_k».proof.Proof.RowTerms
public import Mathlib.Algebra.BigOperators.Fin
public import Mathlib.Tactic.NormNum

@[expose] public section

noncomputable section

namespace Cert.RowTerms

open Finset Idealize.ShloMosaic Cert.RealEntries Cert.RealState

variable {ι : Type} [Fintype ι]

/-! ## What a real sum of squares says about its entries -/

/-- A real chunked sum of squares at row `r` has a real table and real rows up to `r`. -/
theorem real_of_chunkSq {P : ι → ι → EReal} {κ : ℕ → ι → EReal} {N : ℕ} {r : Fin N} (h : IsReal (chunkSq P κ N r)) :
    (∀ i j, IsReal (P i j)) ∧ ∀ s : Fin N, s ≤ r → ∀ i, IsReal (κ s i) := by
  obtain ⟨h1, h2⟩ := isReal_add h
  refine ⟨fun i j => isReal_of_sq (isReal_sum (isReal_sum h1 (mem_univ i)) (mem_univ j)), fun s hs i => ?_⟩
  have h3 := isReal_sum h2 (mem_univ s)
  rw [if_pos hs, one_mul] at h3
  have h4 := isReal_sum (isReal_add h3).2 (mem_univ s)
  rw [if_neg (lt_irrefl s), if_pos rfl, mul_one] at h4
  exact isReal_of_sq (isReal_sum (isReal_of_sq h4) (mem_univ i))

/-- A real sum of squares of the state after `n` rows has a real table and `n` real rows. -/
theorem real_of_sqSum {P : ι → ι → EReal} {κ : ℕ → ι → EReal} {n : ℕ} (h : IsReal (sqSum (stateAt P κ n))) :
    (∀ i j, IsReal (P i j)) ∧ ∀ s, s < n → ∀ i, IsReal (κ s i) := by
  have h1 : ∀ i j, IsReal (stateAt P κ n i j) := fun i j => isReal_of_sq (isReal_sum (isReal_sum h (mem_univ i)) (mem_univ j))
  exact ⟨fun i j => (isReal_add (h1 i j)).1,
    fun s hs i => isReal_of_sq (isReal_sum (isReal_add (h1 i i)).2 (mem_range.mpr hs))⟩

/-! ## Rows after `r` do not matter -/

/-- The rows up to `r`, and zero after. -/
def cut (κ : ℕ → ι → EReal) (r : ℕ) (s : ℕ) (i : ι) : EReal := if s ≤ r then κ s i else 0

/-- A row up to `r` is kept by the cut. -/
theorem cut_of_le {κ : ℕ → ι → EReal} {r s : ℕ} (h : s ≤ r) : cut κ r s = κ s := by
  funext i; exact if_pos h

/-- The chunked sum of squares at row `r` reads the rows up to `r` only. -/
theorem chunkSq_cut (P : ι → ι → EReal) (κ : ℕ → ι → EReal) {N : ℕ} (r : Fin N) :
    chunkSq P (cut κ r) N r = chunkSq P κ N r := by
  unfold chunkSq
  refine congrArg _ (sum_congr rfl fun s _ => ?_)
  by_cases hs : s ≤ r
  · refine congrArg _ ?_
    unfold rowIncr
    rw [cut_of_le (show (s : ℕ) ≤ r from hs)]
    refine congrArg _ (sum_congr rfl fun u _ => ?_)
    by_cases hu : u ≤ s
    · rw [cut_of_le (show (u : ℕ) ≤ r from le_trans hu hs)]
    · rw [if_neg (fun h => hu (le_of_lt h)), if_neg (fun h => hu (le_of_eq h)), mul_zero, mul_zero]
  · rw [if_neg hs, zero_mul, zero_mul]

/-- The chunked numerator at row `r` reads the rows up to `r` only. -/
theorem chunkNum_cut (P : ι → ι → EReal) (κ : ℕ → ι → EReal) (q : ι → EReal) {N : ℕ} (r : Fin N) (i : ι) :
    chunkNum P (cut κ r) q N r i = chunkNum P κ q N r i := by
  unfold chunkNum
  refine congrArg _ (sum_congr rfl fun s _ => ?_)
  by_cases hs : s ≤ r
  · rw [cut_of_le (show (s : ℕ) ≤ r from hs)]
  · simp only [if_neg hs, zero_mul]

/-- The state that includes row `r` reads the rows up to `r` only. -/
theorem stateAt_cut (P : ι → ι → EReal) (κ : ℕ → ι → EReal) (r : ℕ) :
    stateAt P (cut κ r) (r + 1) = stateAt P κ (r + 1) := by
  funext i j
  unfold stateAt
  refine congrArg _ (sum_congr rfl fun s hs => ?_)
  rw [cut_of_le (Nat.lt_succ_iff.mp (mem_range.mp hs))]

/-! ## The formulas at real numbers -/

/-- A sum over `N` rows of which those after `r` are masked is the sum over the rows up to `r`. -/
theorem sum_mask {N : ℕ} (r : Fin N) (f : ℕ → ℝ) : ∑ s : Fin N, (if s ≤ r then f s else 0) = ∑ s ∈ range (r + 1), f s := by
  have h := Fin.sum_univ_eq_sum_range (fun s : ℕ => if s ≤ (r : ℕ) then f s else 0) N
  refine (Eq.trans (sum_congr rfl fun s _ => ?_) h).trans ?_
  · rfl
  · rw [← sum_filter]
    refine sum_congr ?_ fun _ _ => rfl
    ext s
    have := r.isLt
    simp only [mem_filter, mem_range]
    omega

/-- The state at real numbers. -/
theorem stateAt_coe (p : ι → ι → ℝ) (k : ℕ → ι → ℝ) (n : ℕ) (i j : ι) :
    stateAt (fun i j => (p i j : EReal)) (fun s i => (k s i : EReal)) n i j = (upd p k n i j : EReal) := by
  unfold stateAt upd
  simp only [EReal.coe_add, coe_sum, EReal.coe_mul]

/-- The sum of squares at real numbers. -/
theorem sqSum_coe (p : ι → ι → ℝ) : sqSum (fun i j => (p i j : EReal)) = ((∑ i, ∑ j, p i j * p i j : ℝ) : EReal) := by
  unfold sqSum
  simp only [coe_sum, EReal.coe_mul]

/-- The inner product at real numbers. -/
theorem rowInner_coe (x y : ι → ℝ) : rowInner (fun i => (x i : EReal)) (fun i => (y i : EReal)) = ((∑ i, x i * y i : ℝ) : EReal) := by
  unfold rowInner
  simp only [coe_sum, EReal.coe_mul]

/-- The row weights at real numbers. -/
theorem weight_coe {N : ℕ} (s u : Fin N) :
    (if u < s then (2 : EReal) else if u = s then 1 else 0) = ((if u < s then 2 else if u = s then 1 else 0 : ℝ) : EReal) := by
  split_ifs <;> rfl

/-- A row's weighted squared inner products, at real numbers: twice those with the earlier rows plus its own. -/
theorem sum_weight {N : ℕ} (s : Fin N) (f : ℕ → ℝ) :
    ∑ u : Fin N, f u * (if u < s then 2 else if u = s then 1 else 0) = ∑ u ∈ range s, 2 * f u + f s := by
  have e : ∀ u : Fin N, f u * (if u < s then 2 else if u = s then 1 else 0)
      = if u ≤ s then (if (u : ℕ) < (s : ℕ) then 2 * f u else f u) else 0 := by
    intro u
    rcases lt_trichotomy u s with h | h | h
    · rw [if_pos h, if_pos h.le, if_pos (show (u : ℕ) < s from h), mul_comm]
    · subst h; simp
    · rw [if_neg h.not_gt, if_neg h.ne', if_neg h.not_ge, mul_zero]
  rw [sum_congr rfl fun u _ => e u, sum_mask s (fun u => if u < (s : ℕ) then 2 * f u else f u), sum_range_succ,
    if_neg (lt_irrefl _)]
  refine congrArg (· + f s) (sum_congr rfl fun u hu => ?_)
  rw [if_pos (mem_range.mp hu)]

/-- A row's increase at real numbers. -/
theorem rowIncr_coe (p : ι → ι → ℝ) (k : ℕ → ι → ℝ) (N : ℕ) (s : Fin N) :
    rowIncr (fun i j => (p i j : EReal)) (fun s i => (k s i : EReal)) N s = (incr p k s : EReal) := by
  unfold rowIncr incr quad
  simp only [rowInner_coe, weight_coe]
  rw [← sum_weight s (fun u => gram k s u * gram k s u)]
  unfold gram
  simp only [EReal.coe_add, coe_sum, EReal.coe_mul]
  rfl

/-- The chunked sum of squares at real numbers is the sum of squares of the state that includes row `r`. -/
theorem chunkSq_coe (p : ι → ι → ℝ) (k : ℕ → ι → ℝ) {N : ℕ} (r : Fin N) :
    chunkSq (fun i j => (p i j : EReal)) (fun s i => (k s i : EReal)) N r
      = ((∑ i, ∑ j, upd p k (r + 1) i j * upd p k (r + 1) i j : ℝ) : EReal) := by
  unfold chunkSq
  rw [sum_sq_upd, EReal.coe_add, ← sum_mask r]
  refine congrArg₂ (· + ·) (sqSum_coe p) ?_
  rw [coe_sum]
  refine sum_congr rfl fun s _ => ?_
  rw [rowIncr_coe]
  split_ifs <;> simp

/-- The chunked numerator at real numbers is the state that includes row `r` applied to the query. -/
theorem chunkNum_coe (p : ι → ι → ℝ) (k : ℕ → ι → ℝ) (q : ι → ℝ) {N : ℕ} (r : Fin N) (i : ι) :
    chunkNum (fun i j => (p i j : EReal)) (fun s i => (k s i : EReal)) (fun j => (q j : EReal)) N r i
      = ((∑ j, upd p k (r + 1) i j * q j : ℝ) : EReal) := by
  unfold chunkNum
  rw [upd_apply, EReal.coe_add, ← sum_mask r (fun s => (∑ j, q j * k s j) * k s i), coe_sum, coe_sum]
  refine congrArg₂ (· + ·) (sum_congr rfl fun j _ => (EReal.coe_mul _ _).symm) (sum_congr rfl fun s _ => ?_)
  rw [rowInner_coe]
  split_ifs
  · rw [EReal.coe_mul]
  · simp

/-! ## The two entries -/

/-- A table entry divided by a positive real and applied to a real query: the division comes out of the sum. -/
theorem sum_div_coe (u : ι → ℝ) (q : ι → ℝ) {f : ℝ} (hf : f ≠ 0) :
    ∑ j, Ideal.div (u j : EReal) (f : EReal) * (q j : EReal) = ((∑ j, u j * q j : ℝ) : EReal) * Ideal.div 1 (f : EReal) := by
  simp only [Ideal.div_coe hf, one_mul, ← EReal.coe_mul, ← coe_sum]
  rw [sum_mul]
  exact congrArg _ (sum_congr rfl fun j _ => by ring)

/-- At real numbers the chunked entry is the step-by-step entry. -/
theorem out_eq_coe (p : ι → ι → ℝ) (k : ℕ → ι → ℝ) (q : ι → ℝ) {e : ℝ} (he : 0 < e) (g o : EReal) {N : ℕ} (r : Fin N) (i : ι) :
    chunkOut (fun i j => (p i j : EReal)) (fun s i => (k s i : EReal)) (fun j => (q j : EReal)) (e : EReal) g o N r i
      = seqOut (stateAt (fun i j => (p i j : EReal)) (fun s i => (k s i : EReal)) (r + 1)) (fun j => (q j : EReal)) (e : EReal) g o i := by
  unfold chunkOut seqOut
  rw [show stateAt (fun i j => (p i j : EReal)) (fun s i => (k s i : EReal)) (r + 1)
      = fun i j => (upd p k (r + 1) i j : EReal) from funext fun i => funext fun j => stateAt_coe p k _ i j]
  rw [chunkNum_coe, chunkSq_coe, sqSum_coe]
  have h0 : 0 ≤ ∑ i, ∑ j, upd p k (r + 1) i j * upd p k (r + 1) i j :=
    sum_nonneg fun i _ => sum_nonneg fun j _ => mul_self_nonneg _
  rw [Ideal.sqrt_coe, if_neg (not_lt.mpr h0), ← EReal.coe_add]
  have hf := (add_pos_of_nonneg_of_pos (Real.sqrt_nonneg (∑ i, ∑ j, upd p k (r + 1) i j * upd p k (r + 1) i j)) he).ne'
  rw [sum_div_coe _ _ hf, mul_comm g]

/-- An infinite normaliser makes the step-by-step entry the gate at zero. -/
theorem seqOut_infinite (S : ι → ι → EReal) (q : ι → EReal) (e : ℝ) (g o : EReal) (i : ι) (h : ¬IsReal (sqSum S)) :
    seqOut S q (e : EReal) g o i = Ideal.tanh 0 * o := by
  unfold seqOut
  simp only [div_infinite (sqrt_add_infinite e h), zero_mul, sum_const_zero, mul_zero]

/-- An infinite normaliser makes the chunked entry the gate at zero. -/
theorem chunkOut_infinite (P : ι → ι → EReal) (κ : ℕ → ι → EReal) (q : ι → EReal) (e : ℝ) (g o : EReal) {N : ℕ} (r : Fin N) (i : ι)
    (h : ¬IsReal (chunkSq P κ N r)) : chunkOut P κ q (e : EReal) g o N r i = Ideal.tanh 0 * o := by
  unfold chunkOut
  simp only [div_infinite (sqrt_add_infinite e h), zero_mul, mul_zero]

/-- THE ROW EQUATION: for a real query and a positive real added to the normaliser, the chunked entry at row `r` is the
    step-by-step entry of the state that includes row `r`. -/
theorem chunkOut_eq_seqOut (P : ι → ι → EReal) (κ : ℕ → ι → EReal) (q : ι → EReal) (hq : ∀ j, IsReal (q j)) {e : ℝ} (he : 0 < e)
    (g o : EReal) {N : ℕ} (r : Fin N) (i : ι) :
    chunkOut P κ q (e : EReal) g o N r i = seqOut (stateAt P κ (r + 1)) q (e : EReal) g o i := by
  by_cases hall : (∀ i j, IsReal (P i j)) ∧ ∀ s : Fin N, s ≤ r → ∀ i, IsReal (κ s i)
  · obtain ⟨hP, hκ⟩ := hall
    have hc : ∀ s i, IsReal (cut κ r s i) := by
      intro s i
      unfold cut
      split_ifs with hs
      · exact hκ ⟨s, lt_of_le_of_lt hs r.isLt⟩ hs i
      · exact ⟨0, rfl⟩
    choose p hp using hP
    choose k hk using hc
    choose x hx using hq
    have e1 : chunkOut P (cut κ r) q (e : EReal) g o N r i = chunkOut P κ q (e : EReal) g o N r i := by
      unfold chunkOut; rw [chunkSq_cut, chunkNum_cut]
    rw [← e1, ← stateAt_cut, show P = fun i j => (p i j : EReal) from funext fun i => funext fun j => hp i j,
      show cut κ r = fun s i => (k s i : EReal) from funext fun s => funext fun i => hk s i,
      show q = fun j => (x j : EReal) from funext hx]
    exact out_eq_coe p k x he g o r i
  · rw [chunkOut_infinite P κ q e g o r i (fun h => hall (real_of_chunkSq h)),
      seqOut_infinite _ q e g o i (fun h => hall ((real_of_sqSum h).imp_right fun h' s hs => h' s (Nat.lt_succ_of_le hs)))]

/-! ## The state across chunks -/

/-- The state after `m + n` rows is the state after `n` more rows from the state after `m`. -/
theorem stateAt_add (P : ι → ι → EReal) (κ : ℕ → ι → EReal) (m n : ℕ) :
    stateAt P κ (m + n) = stateAt (stateAt P κ m) (fun s => κ (m + s)) n := by
  funext i j
  unfold stateAt
  rw [sum_range_add, add_assoc]

/-- One more row adds one more rank-one product. -/
theorem stateAt_succ (P : ι → ι → EReal) (κ : ℕ → ι → EReal) (n : ℕ) (i j : ι) :
    stateAt P κ (n + 1) i j = stateAt P κ n i j + κ n i * κ n j := by
  unfold stateAt; rw [sum_range_succ, add_assoc]

/-- No row: the state is the table. -/
theorem stateAt_zero (P : ι → ι → EReal) (κ : ℕ → ι → EReal) (i j : ι) : stateAt P κ 0 i j = P i j := by
  unfold stateAt; simp

end Cert.RowTerms

end
-- ==== Proof.Words.lean ====
/-
  The constants both programs write as bit patterns, as real numbers, and choices on comparisons of row numbers.
-/
module

public import Idealize.ShloMosaic.Lib.IdealHost
public import Idealize.ShloMosaic.Lib.WordCmp
public import Mathlib.Tactic.NormNum

@[expose] public section

noncomputable section

namespace Cert.Words

open Idealize.ShloMosaic

/-- The real number the normaliser adds to the root. -/
def eps : ℝ := 14073749 / 2 ^ 47

/-- That number is positive. -/
theorem eps_pos : 0 < eps := by unfold eps; norm_num

/-- The pattern of the added number reads as it. -/
theorem ofBits_eps : Ideal.ofBits .f32 0x33D6BF95#32 = (eps : EReal) := by
  unfold eps
  simp [Ideal.ofBits, Ideal.ieee, -EReal.coe_mul]; norm_num

/-- The pattern of two reads as two. -/
theorem ofBits_two : Ideal.ofBits .f32 0x40000000#32 = (2 : EReal) := by
  rw [show (2 : EReal) = ((2 : ℝ) : EReal) from rfl]
  simp [Ideal.ofBits, Ideal.ieee, -EReal.coe_mul]; norm_num

/-- The pattern of the infinite number reads as the top. -/
theorem ofBits_inf : Ideal.ofBits .f32 0x7F800000#32 = (⊤ : EReal) := by
  simp [Ideal.ofBits, Ideal.ieee]

/-- A choice on a bit made from a truth value. -/
theorem select_ofBool {α : Type} (p : Prop) [Decidable p] (x y : α) :
    Scalar.select (BitVec.ofBool (decide p)) x y = if p then x else y := by
  unfold Scalar.select
  by_cases h : p <;> simp [h]

/-- A choice on "row `u` is not after row `s`". -/
theorem select_sle {α : Type} (u s : Fin 256) (x y : α) :
    Scalar.select (IntOp.cmpi .sle (BitVec.ofNat 32 (u : ℕ)) (BitVec.ofNat 32 (s : ℕ))) x y = if u ≤ s then x else y := by
  rw [WordCmp.cmpi_sle_ofNat (by omega) (by omega), select_ofBool]; rfl

/-- A choice on "row `u` is before row `s`". -/
theorem select_slt {α : Type} (u s : Fin 256) (x y : α) :
    Scalar.select (IntOp.cmpi .slt (BitVec.ofNat 32 (u : ℕ)) (BitVec.ofNat 32 (s : ℕ))) x y = if u < s then x else y := by
  rw [WordCmp.cmpi_slt_ofNat (by omega) (by omega), select_ofBool]; rfl

/-- A choice on "row `u` is row `s`". -/
theorem select_eq {α : Type} (u s : Fin 256) (x y : α) :
    Scalar.select (IntOp.cmpi .eq (BitVec.ofNat 32 (u : ℕ)) (BitVec.ofNat 32 (s : ℕ))) x y = if u = s then x else y := by
  rw [WordCmp.cmpi_eq_ofNat (by omega) (by omega), select_ofBool]
  simp only [Fin.ext_iff]

end Cert.Words

end
-- ==== Proof.KernelPayload.lean ====
/-
  What one grid point of the kernel computes from the blocks it loads, read at an index: the output block is the
  chunked entry of every row, the state block is the loaded state after the chunk's rows.
-/
module

public import proofs.«01_k».proof.Proof.Gen.KernelIdeal.Skeleton
public import proofs.«01_k».proof.Proof.RowEquation
public import proofs.«01_k».proof.Proof.Words
public import Idealize.ShloMosaic.Lib.Pointwise

@[expose] public section

set_option maxRecDepth 16384

noncomputable section

namespace Cert.KernelIdeal.Payload

open Idealize.ShloMosaic Idealize.ShloMosaic.TcCoe Idealize.SL.Sem
open Cert.KernelIdeal Cert.KernelIdeal.Gen
open Cert.RowTerms Cert.Words

variable (P Q K : FVec Ideal S4x256x256 .f32) (g o : FVec Ideal S1x256 .f32)

/-- A block's table for batch `b`. -/
def table (P : FVec Ideal S4x256x256 .f32) (b : Fin 4) (i j : Fin 256) : EReal := P (ix3 b i j)

/-- A block's rows for batch `b`, by number (zero past the block's end). -/
def rows (K : FVec Ideal S4x256x256 .f32) (b : Fin 4) (s : ℕ) (i : Fin 256) : EReal :=
  if h : s < 256 then K (ix3 b ⟨s, h⟩ i) else 0

/-- A row whose number is below the block's end. -/
theorem rows_fin (b : Fin 4) (s : Fin 256) : rows K b (s : ℕ) = fun i => K (ix3 b s i) := by
  funext i; unfold rows; rw [dif_pos s.isLt]

/-- The loaded state's sum of squares. -/
theorem sq_apply (b : Fin 4) : k0_pay2 (F := Ideal) P (ix3 b 0 0) = sqSum (table P b) := by
  pointwise [k0_pay2, k0_pay1, sqSum, table]

/-- Each row against the loaded state on both sides. -/
theorem quad_apply (b : Fin 4) (s : Fin 256) :
    k0_pay3 (F := Ideal) P K (ix3 b s 0) = ∑ j : Fin 256, (∑ i : Fin 256, K (ix3 b s i) * P (ix3 b j i)) * K (ix3 b s j) := by
  pointwise [k0_pay3, k0_pay1]

/-- The numerators. -/
theorem num_apply (b : Fin 4) (r i : Fin 256) :
    k0_pay4 (F := Ideal) P Q K (ix3 b r i) = chunkNum (table P b) (rows K b) (fun j => Q (ix3 b r j)) 256 r i := by
  unfold chunkNum
  simp only [rows_fin]
  pointwise [k0_pay4, k0_pay1, rowInner, table]
  refine congrArg _ (Finset.sum_congr rfl fun s _ => ?_)
  rw [select_sle]
  split_ifs
  · rfl
  · rw [zero_mul]

/-- The squared inner products of the rows. -/
theorem gram_apply (b : Fin 4) (s u : Fin 256) :
    k0_pay5 (F := Ideal) K (ix3 b s u) = rowInner (rows K b s) (rows K b u) * rowInner (rows K b s) (rows K b u) := by
  simp only [rows_fin]
  pointwise [k0_pay5, rowInner]

/-- The weights: two for an earlier row, one for the row itself, zero for a later one. -/
theorem weight_apply (s u : Fin 256) : k0_pay6 (F := Ideal) (ix3 0 s u) = if u < s then 2 else if u = s then 1 else 0 := by
  pointwise [k0_pay6]
  rw [select_slt, select_eq, ofBits_two]

/-- The state block a grid point leaves: the loaded state after the block's 256 rows. -/
theorem state_apply (b : Fin 4) (i j : Fin 256) :
    k0_pay8 (F := Ideal) (k0_pay1 P) K (ix3 b i j) = stateAt (table P b) (rows K b) 256 i j := by
  unfold stateAt
  rw [← Fin.sum_univ_eq_sum_range (fun s => rows K b s i * rows K b s j) 256]
  simp only [rows_fin]
  pointwise [k0_pay8, k0_pay1, table]

/-- The output block a grid point leaves: the chunked entry of each of its rows. -/
theorem out_apply (b : Fin 4) (r i : Fin 256) :
    k0_pay7 (F := Ideal) (k0_pay2 P) (iota .tc S256x256 32 [0] iota_S256x256_d0_w32) (iota .tc S256x256 32 [1] iota_S256x256_d1_w32)
        (k0_pay3 P K) (k0_pay4 P Q K) (k0_pay5 K) k0_pay6 g o (ix3 b r i)
      = chunkOut (table P b) (rows K b) (fun j => Q (ix3 b r j)) (eps : EReal) (Ideal.exp (g (ix2 0 i))) (o (ix2 0 i)) 256 r i := by
  unfold chunkOut chunkSq rowIncr
  pointwise [k0_pay7]
  simp only [sq_apply, quad_apply, num_apply, gram_apply, weight_apply, select_sle, ofBits_two, ofBits_eps]
  have e : ∀ s : Fin 256,
      (if s ≤ r then 2 * (∑ j : Fin 256, (∑ i : Fin 256, K (ix3 b s i) * P (ix3 b j i)) * K (ix3 b s j))
          + ∑ u : Fin 256, rowInner (rows K b s) (rows K b u) * rowInner (rows K b s) (rows K b u) * (if u < s then 2 else if u = s then 1 else 0)
        else 0)
      = (if s ≤ r then 1 else 0) * (2 * (∑ j, (∑ i, rows K b s i * table P b j i) * rows K b s j)
          + ∑ u : Fin 256, rowInner (rows K b s) (rows K b u) * rowInner (rows K b s) (rows K b u) * (if u < s then 2 else if u = s then 1 else 0)) := by
    intro s
    split_ifs
    · rw [one_mul, rows_fin K b s]; rfl
    · rw [zero_mul]
  rw [Finset.sum_congr rfl fun s _ => e s]

end Cert.KernelIdeal.Payload

end
-- ==== Proof.KernelCases.lean ====
/-
  What each case of the kernel's body leaves in its two output buffers, as the named payloads at the blocks it loads.
  At the first point the state is the staged initial table; at a later point it is what the point before left.
-/
module

public import proofs.«01_k».proof.Proof.Gen.KernelIdeal.Frame
public import Idealize.ShloMosaic.Lib.Pipeline.Value
public import Idealize.ShloMosaic.Lib.Tactic

@[expose] public section

noncomputable section

namespace Cert.KernelIdeal.Cases

open Idealize.ShloMosaic Idealize.ShloMosaic.TcCoe Idealize.SL.Sem
open Cert.KernelIdeal Cert.KernelIdeal.Gen

variable {F : FTy → Type} [FloatOps F]

/-- Three zero offsets. -/
theorem zero3 : (![0, 0, 0] : Fin 3 → Nat) = fun _ => 0 := funext fun a => by fin_cases a <;> rfl

/-- Two zero offsets. -/
theorem zero2 : (![0, 0] : Fin 2 → Nat) = fun _ => 0 := funext fun a => by fin_cases a <;> rfl

/-- The output block's payload at a state block, a query block, a key block and the two gates. -/
def outBlock (P Q K : Vec F S4x256x256 .f32) (g o : Vec F S1x256 .f32) : Vec F S4x256x256 .f32 :=
  k0_pay7 (k0_pay2 P) (iota .tc S256x256 32 [0] iota_S256x256_d0_w32) (iota .tc S256x256 32 [1] iota_S256x256_d1_w32)
    (k0_pay3 P K) (k0_pay4 P Q K) (k0_pay5 K) k0_pay6 g o

/-- The state block's payload at a state block and a key block. -/
def stateBlock (P K : Vec F S4x256x256 .f32) : Vec F S4x256x256 .f32 := k0_pay8 (k0_pay1 P) K

variable (c : Dev nD) (i : grid0.Coords)
  (a2 : Memref sig .tc .vmem S4x256x256 .f32) (h2 : a2.IsWhole) (a3 : Memref sig .tc .vmem S4x256x256 .f32) (h3 : a3.IsWhole)
  (a4 : Memref sig .tc .vmem S4x256x256 .f32) (h4 : a4.IsWhole) (a5 : Memref sig .tc .vmem S1x256 .f32) (h5 : a5.IsWhole)
  (a6 : Memref sig .tc .vmem S1x256 .f32) (h6 : a6.IsWhole) (a7 : Memref sig .tc .vmem S4x256x256 .f32) (h7 : a7.IsWhole)
  (a8 : Memref sig .tc .vmem S4x256x256 .f32) (h8 : a8.IsWhole)
  (Q K P : Vec F S4x256x256 .f32) (g o : Vec F S1x256 .f32) (S : Vec F S4x256x256 .f32)

/-- A later point's output block, at the state `S` the point before left. -/
theorem later_out (hc : ¬cond0_0 i) : out0_B_5 c i a2 h2 a3 h3 a4 h4 a5 h5 a6 h6 a7 h7 a8 h8 hc Q K P g o S = outBlock S Q K g o := by
  unfold out0_B_5
  rw [View.read_writes_eq_canon _ _ _ (cover0_B_5 c i a2 h2 a3 h3 a4 h4 a5 h5 a6 h6 a7 h7 a8 h8 hc Q K P g o S)]
  unfold kernelRun0_B
  dsimp only
  sl_unfold_words
  rw [View.canon_unit_zero zero3]
  unfold outBlock
  simp only [View.readAt_eq_ld, h2.read_unread, h3.read_unread, h4.read_unread, h5.read_unread, h6.read_unread, h8.read_unread,
    View.ld_unit_zero (S := S4x256x256) zero3, View.ld_unit_zero (S := S1x256) zero2]

/-- A later point's state block, at the state `S` the point before left. -/
theorem later_state (hc : ¬cond0_0 i) : out0_B_6 c i a2 h2 a3 h3 a4 h4 a5 h5 a6 h6 a7 h7 a8 h8 hc Q K P g o S = stateBlock S K := by
  unfold out0_B_6
  rw [View.read_writes_eq_canon _ _ _ (cover0_B_6 c i a2 h2 a3 h3 a4 h4 a5 h5 a6 h6 a7 h7 a8 h8 hc Q K P g o S)]
  unfold kernelRun0_B
  dsimp only
  sl_unfold_words
  rw [View.canon_unit_zero zero3]
  unfold stateBlock
  simp only [View.readAt_eq_ld, h2.read_unread, h3.read_unread, h4.read_unread, h5.read_unread, h6.read_unread, h8.read_unread,
    View.ld_unit_zero (S := S4x256x256) zero3, View.ld_unit_zero (S := S1x256) zero2]

/-- The first point's output block, at the staged initial table. -/
theorem first_out (hc : cond0_0 i) : out0_A_5 c i a2 h2 a3 h3 a4 h4 a5 h5 a6 h6 a7 h7 a8 h8 hc Q K P g o = outBlock P Q K g o := by
  unfold out0_A_5
  rw [View.read_writes_eq_canon _ _ _ (cover0_A_5 c i a2 h2 a3 h3 a4 h4 a5 h5 a6 h6 a7 h7 a8 h8 hc Q K P g o)]
  unfold kernelRun0_A
  dsimp only
  sl_unfold_words
  rw [View.canon_unit_zero zero3]
  unfold outBlock
  simp only [View.readCov_unit_zero (S := S4x256x256) _ zero3, View.readAt_eq_ld, h2.read_unread, h3.read_unread, h4.read_unread, h5.read_unread, h6.read_unread, h8.read_unread,
    View.ld_unit_zero (S := S4x256x256) zero3, View.ld_unit_zero (S := S1x256) zero2]

/-- The first point's state block, at the staged initial table. -/
theorem first_state (hc : cond0_0 i) : out0_A_6 c i a2 h2 a3 h3 a4 h4 a5 h5 a6 h6 a7 h7 a8 h8 hc Q K P g o = stateBlock P K := by
  unfold out0_A_6
  rw [View.read_writes_eq_canon _ _ _ (cover0_A_6 c i a2 h2 a3 h3 a4 h4 a5 h5 a6 h6 a7 h7 a8 h8 hc Q K P g o)]
  unfold kernelRun0_A
  dsimp only
  sl_unfold_words
  rw [View.canon_cons_unit_zero (S := S4x256x256) zero3]
  unfold stateBlock
  simp only [View.readCov_unit_zero (S := S4x256x256) _ zero3, View.readAt_eq_ld, h2.read_unread, h3.read_unread, h4.read_unread, h5.read_unread, h6.read_unread, h8.read_unread,
    View.ld_unit_zero (S := S4x256x256) zero3, View.ld_unit_zero (S := S1x256) zero2]

end Cert.KernelIdeal.Cases

end
-- ==== Proof.Results.lean ====
/-
  The two results as functions of the five argument arrays: what the step-by-step computation defines.  The state after
  `t` rows is the initial table plus the rank-one products of the first `t` key rows; result 1 at row `t` is the
  normalised state that includes row `t` applied to query row `t`, gated; result 2 is the state after all rows.
-/
module

public import proofs.«01_k».proof.Proof.RowEquation
public import proofs.«01_k».proof.Proof.Words
public import Idealize.ShloMosaic.Lib.Pointwise

@[expose] public section

noncomputable section

namespace Cert.Results

open Finset Idealize.ShloMosaic Cert.RowTerms Cert.Words

/-- The shape of the queries and of the keys. -/
abbrev SRows : Shape := ⟨3, ![4, 1024, 256]⟩
/-- The shape of the tables. -/
abbrev STab : Shape := ⟨3, ![4, 256, 256]⟩
/-- The shape of a gate. -/
abbrev SGate : Shape := ⟨1, ![256]⟩

/-- The initial table of batch `b`. -/
def tab (P : FVec Ideal STab .f32) (b : Fin 4) (i j : Fin 256) : EReal := P (ix3 b i j)

/-- Row `t` of batch `b` (zero past the end). -/
def row (K : FVec Ideal SRows .f32) (b : Fin 4) (t : ℕ) (i : Fin 256) : EReal :=
  if h : t < 1024 then K (ix3 b ⟨t, h⟩ i) else 0

/-- A row below the end. -/
theorem row_of_lt (K : FVec Ideal SRows .f32) (b : Fin 4) {t : ℕ} (h : t < 1024) (i : Fin 256) :
    row K b t i = K (ix3 b ⟨t, h⟩ i) := dif_pos h

/-- The state of batch `b` after `t` rows. -/
def state (K : FVec Ideal SRows .f32) (P : FVec Ideal STab .f32) (b : Fin 4) (t : ℕ) : Fin 256 → Fin 256 → EReal :=
  stateAt (tab P b) (row K b) t

/-- Result 1 at batch `b`, row `t`, channel `i`. -/
def entry (Q K : FVec Ideal SRows .f32) (P : FVec Ideal STab .f32) (l o : FVec Ideal SGate .f32) (b : Fin 4) (t : ℕ) (i : Fin 256) : EReal :=
  seqOut (state K P b (t + 1)) (row Q b t) (eps : EReal) (Ideal.exp (l (ix1 i))) (o (ix1 i)) i

/-- Result 1, whole. -/
def out (Q K : FVec Ideal SRows .f32) (P : FVec Ideal STab .f32) (l o : FVec Ideal SGate .f32) : FVec Ideal SRows .f32 :=
  fun i => entry Q K P l o (i 0) (i 1).val (i 2)

/-- Result 2, whole. -/
def final (K : FVec Ideal SRows .f32) (P : FVec Ideal STab .f32) : FVec Ideal STab .f32 :=
  fun i => state K P (i 0) 1024 (i 1) (i 2)

/-- The state depends on its table and its first `n` rows only. -/
theorem stateAt_congr {ι : Type} [Fintype ι] {P P' : ι → ι → EReal} {κ κ' : ℕ → ι → EReal} {n : ℕ} (hP : ∀ i j, P i j = P' i j)
    (hκ : ∀ s, s < n → ∀ i, κ s i = κ' s i) : stateAt P κ n = stateAt P' κ' n := by
  funext i j
  unfold stateAt
  rw [hP]
  exact congrArg _ (sum_congr rfl fun s hs => by rw [hκ s (mem_range.mp hs) i, hκ s (mem_range.mp hs) j])

/-- Equal parts make equal rows. -/
theorem seqOut_congr {ι : Type} [Fintype ι] {S S' : ι → ι → EReal} {q q' : ι → EReal} {e g g' o o' : EReal} {i : ι}
    (hS : ∀ i j, S i j = S' i j) (hq : ∀ j, q j = q' j) (hg : g = g') (ho : o = o') : seqOut S q e g o i = seqOut S' q' e g' o' i := by
  obtain rfl : S = S' := funext fun i => funext fun j => hS i j
  obtain rfl : q = q' := funext hq
  rw [hg, ho]

end Cert.Results

end
-- ==== Proof.KernelArray.lean ====
/-
  What the kernel's two result arrays hold after its run, as the results' functions of the argument arrays.  The state
  block after point `n` is the state after `256 (n + 1)` rows; the output block of point `n` is result 1 on the rows
  from `256 n` on, for real queries.
-/
module

public import proofs.«01_k».proof.Proof.Gen.KernelIdeal.Value
public import proofs.«01_k».proof.Proof.KernelPayload
public import proofs.«01_k».proof.Proof.KernelCases
public import proofs.«01_k».proof.Proof.Results
public import Idealize.ShloMosaic.Lib.Pipeline.ValueKit
public import Idealize.ShloMosaic.Lib.Claim

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Payload Cert.KernelIdeal.Cases
open Cert.RowTerms Cert.Words Cert.Results Cert.RealEntries

variable (m : (ℓ : Loc nD τ sig) → Buf (Elt Ideal) ℓ) (c : Dev nD)

/-- The five argument arrays of a device. -/
abbrev argQ : FVec Ideal SRows .f32 := m ((c : Thread nD τ).loc main_arg0)
abbrev argK : FVec Ideal SRows .f32 := m ((c : Thread nD τ).loc main_arg1)
abbrev argP : FVec Ideal STab .f32 := m ((c : Thread nD τ).loc main_arg2)
abbrev argL : FVec Ideal SGate .f32 := m ((c : Thread nD τ).loc main_arg3)
abbrev argO : FVec Ideal SGate .f32 := m ((c : Thread nD τ).loc main_arg4)

/-- The staged blocks of a point. -/
abbrev blkQ (t : Fin cfg0.N) : FVec Ideal S4x256x256 .f32 := iblk m c 0 t
abbrev blkK (t : Fin cfg0.N) : FVec Ideal S4x256x256 .f32 := iblk m c 1 t
abbrev blkP (t : Fin cfg0.N) : FVec Ideal S4x256x256 .f32 := iblk m c 2 t
abbrev blkL (t : Fin cfg0.N) : FVec Ideal S1x256 .f32 := iblk m c 3 t
abbrev blkO (t : Fin cfg0.N) : FVec Ideal S1x256 .f32 := iblk m c 4 t

/-- Where each window's block lies at a point. -/
theorem places : ∀ t : Fin cfg0.N, win0_0.index t = ![0, t.val, 0] ∧ win0_1.index t = ![0, t.val, 0] ∧ win0_2.index t = ![0, 0, 0]
    ∧ win0_3.index t = ![0, 0] ∧ win0_4.index t = ![0, 0] ∧ win0_5.index t = ![0, t.val, 0] ∧ win0_6.index t = ![0, 0, 0] :=
  (by decide +kernel : ∀ t : Fin grid0.N, _)

/-- A row of a point's block is a row of the array. -/
theorem row_lt (t : Fin cfg0.N) (r : Fin 256) : 256 * t.val + r.val < 1024 := by
  have h : cfg0.N = 4 := N_0
  have := t.isLt
  omega

/-- The point's query block, read in the array. -/
theorem blkQ_apply (t : Fin cfg0.N) (b : Fin 4) (r i : Fin 256) : blkQ m c t (ix3 b r i) = argQ m c (ix3 b ⟨256 * t.val + r.val, row_lt t r⟩ i) := by
  obtain ⟨h, -⟩ := places t
  blk_ext [iblk, V, h]

/-- The point's key block, read in the array. -/
theorem blkK_apply (t : Fin cfg0.N) (b : Fin 4) (r i : Fin 256) : blkK m c t (ix3 b r i) = argK m c (ix3 b ⟨256 * t.val + r.val, row_lt t r⟩ i) := by
  obtain ⟨-, h, -⟩ := places t
  blk_ext [iblk, V, h]

/-- The staged initial table is the array. -/
theorem blkP_apply (t : Fin cfg0.N) (b : Fin 4) (i j : Fin 256) : blkP m c t (ix3 b i j) = argP m c (ix3 b i j) := by
  obtain ⟨-, -, h, -⟩ := places t
  blk_ext [iblk, V, h]

/-- The staged gain row is the gain array. -/
theorem blkL_apply (t : Fin cfg0.N) (i : Fin 256) : blkL m c t (ix2 0 i) = argL m c (ix1 i) := by
  obtain ⟨-, -, -, h, -⟩ := places t
  blk_simp [iblk]
  entry_read
  pointwise
  blk_ext [h]

/-- The staged scale row is the scale array. -/
theorem blkO_apply (t : Fin cfg0.N) (i : Fin 256) : blkO m c t (ix2 0 i) = argO m c (ix1 i) := by
  obtain ⟨-, -, -, -, h, -⟩ := places t
  blk_simp [iblk]
  entry_read
  pointwise
  blk_ext [h]

/-- The rows of a point's key block are rows of the array. -/
theorem rows_blkK (t : Fin cfg0.N) (b : Fin 4) (s : ℕ) (hs : s < 256) (i : Fin 256) :
    rows (blkK m c t) b s i = row (argK m c) b (256 * t.val + s) i := by
  have h : 256 * t.val + s < 1024 := row_lt t ⟨s, hs⟩
  rw [row_of_lt _ _ h, rows, dif_pos hs]
  exact blkK_apply m c t b ⟨s, hs⟩ i

/-- A state block that holds the state before a point's rows, advanced by up to all of them. -/
theorem state_advance (t : Fin cfg0.N) (b : Fin 4) (S : FVec Ideal S4x256x256 .f32)
    (hS : ∀ i j, S (ix3 b i j) = state (argK m c) (argP m c) b (256 * t.val) i j) (n : ℕ) (hn : n ≤ 256) :
    stateAt (table S b) (rows (blkK m c t) b) n = state (argK m c) (argP m c) b (256 * t.val + n) := by
  rw [state, stateAt_add]
  exact stateAt_congr hS fun s hs i => rows_blkK m c t b s (lt_of_lt_of_le hs hn) i

/-- The new state block of a point, from one that holds the state before it. -/
theorem stateBlock_eq (t : Fin cfg0.N) (b : Fin 4) (S : FVec Ideal S4x256x256 .f32)
    (hS : ∀ i j, S (ix3 b i j) = state (argK m c) (argP m c) b (256 * t.val) i j) (i j : Fin 256) :
    (stateBlock (F := Ideal) S (blkK m c t) (ix3 b i j) : EReal) = state (argK m c) (argP m c) b (256 * t.val + 256) i j := by
  rw [← state_advance m c t b S hS 256 le_rfl]
  exact state_apply S (blkK m c t) b i j

/-- The output block of a point, from the state before it, for real queries. -/
theorem outBlock_eq (hq : ∀ i, IsReal (argQ m c i)) (t : Fin cfg0.N) (b : Fin 4) (S : FVec Ideal S4x256x256 .f32)
    (hS : ∀ i j, S (ix3 b i j) = state (argK m c) (argP m c) b (256 * t.val) i j) (r i : Fin 256) :
    (outBlock (F := Ideal) S (blkQ m c t) (blkK m c t) (blkL m c t) (blkO m c t) (ix3 b r i) : EReal)
      = entry (argQ m c) (argK m c) (argP m c) (argL m c) (argO m c) b (256 * t.val + r.val) i := by
  have hr : ∀ j, blkQ m c t (ix3 b r j) = row (argQ m c) b (256 * t.val + r.val) j := fun j => by
    rw [row_of_lt _ _ (row_lt t r)]
    exact blkQ_apply m c t b r j
  refine (out_apply S (blkQ m c t) (blkK m c t) (blkL m c t) (blkO m c t) b r i).trans ?_
  rw [chunkOut_eq_seqOut _ _ _ (fun j => by rw [blkQ_apply]; exact hq _) eps_pos, state_advance m c t b S hS (r.val + 1) r.isLt,
    funext hr, blkL_apply, blkO_apply]
  rfl

/-- The state before the first row is the initial table. -/
theorem state_zero (b : Fin 4) (t : Fin cfg0.N) (h : t.val = 0) (i j : Fin 256) :
    blkP m c t (ix3 b i j) = state (argK m c) (argP m c) b (256 * t.val) i j := by
  rw [blkP_apply, h]
  exact (stateAt_zero (tab (argP m c) b) (row (argK m c) b) i j).symm

/-- After point `n` the state block holds the state after `256 (n + 1)` rows. -/
theorem states : ∀ (n : ℕ) (h : n < cfg0.N) (b : Fin 4) (i j : Fin 256),
    (outsAt0 m c n h).2 (ix3 b i j) = state (argK m c) (argP m c) b (256 * n + 256) i j := by
  intro n
  induction n with
  | zero =>
    intro h b i j
    rw [outsAt0_A m c ⟨0, h⟩ rfl]
    dsimp only
    rw [first_state]
    exact stateBlock_eq m c ⟨0, h⟩ b _ (fun i j => state_zero m c b ⟨0, h⟩ rfl i j) i j
  | succ n ih =>
    intro h b i j
    have hN : cfg0.N = 4 := N_0
    rw [outsAt0_B m c ⟨n + 1, h⟩ (by show ¬ (n + 1) % 4 = 0; omega)]
    dsimp only
    rw [later_state]
    exact stateBlock_eq m c ⟨n + 1, h⟩ b _ (fun i j => ih _ b i j) i j

/-- After point `n` the output block holds result 1 on the point's rows, for real queries. -/
theorem outs (hq : ∀ i, IsReal (argQ m c i)) (t : Fin cfg0.N) (b : Fin 4) (r i : Fin 256) :
    (outsAt0 m c t.val t.isLt).1 (ix3 b r i)
      = entry (argQ m c) (argK m c) (argP m c) (argL m c) (argO m c) b (256 * t.val + r.val) i := by
  have hN : cfg0.N = 4 := N_0
  have ht := t.isLt
  by_cases h0 : t.val % 4 = 0
  · rw [outsAt0_A m c t h0]
    dsimp only
    rw [first_out]
    exact outBlock_eq m c hq t b _ (fun i j => state_zero m c b t (by omega) i j) r i
  · rw [outsAt0_B m c t h0]
    dsimp only
    rw [later_out]
    refine outBlock_eq m c hq t b _ (fun i j => ?_) r i
    rw [states m c (t.val - 1) _ b i j]
    exact congrArg (fun n => state (argK m c) (argP m c) b n i j) (by omega)

/-- The output array ends holding result 1, for real queries. -/
theorem out_array (hq : ∀ i, IsReal (argQ m c i)) :
    (dats m 0 c).arrAt 5 cfg0.N = out (argQ m c) (argK m c) (argP m c) (argL m c) (argO m c) := by
  refine (dats m 0 c).arrAt_eq_of_covers 5 _ (by decide +kernel) fun t hf y => ?_
  obtain ⟨-, -, -, -, -, h, -⟩ := places t
  blk_simp
  rw [after0_5]
  obtain ⟨b, r, i, rfl⟩ : ∃ (b : Fin 4) (r i : Fin 256), y = ix3 b r i := ⟨_, _, _, eq_ix3 y⟩
  refine (outs m c hq t b r i).trans ?_
  have e : (win0_5.blk t).view.emb (ix3 b r i) = ix3 b ⟨256 * t.val + r.val, row_lt t r⟩ i := by blk_ext [h]
  rw [e]
  rfl

/-- The state array ends holding result 2. -/
theorem state_array : (dats m 0 c).arrAt 6 cfg0.N = final (argK m c) (argP m c) := by
  refine (dats m 0 c).arrAt_eq_of_after_last 6 t0_3 (by decide +kernel) _ fun j => ?_
  obtain ⟨b, i, k, rfl⟩ : ∃ (b : Fin 4) (i k : Fin 256), j = ix3 b i k := ⟨_, _, _, eq_ix3 j⟩
  have e : (cfg0.win 6).arr.view.emb (ix3 b i k) = ix3 b i k := by blk_ext
  rw [e]
  blk_simp
  rw [after0_6]
  exact states m c 3 _ b i k

end Cert.KernelIdeal.Arrays

end
-- ==== Proof.RefTrip.lean ====
/-
  One trip of the reference's loop, read at an index: the row a trip cuts out, the new state, the row the trip
  computes from it, and where that row is written.
-/
module

public import proofs.«01_k».proof.Proof.Gen.ReferenceIdeal.Run
public import proofs.«01_k».proof.Proof.RowTerms
public import proofs.«01_k».proof.Proof.Words
public import Idealize.ShloMosaic.Lib.Pointwise

@[expose] public section

set_option maxRecDepth 16384

noncomputable section

namespace Cert.ReferenceIdeal.Trip

open Idealize.ShloMosaic Idealize.ShloMosaic.TcCoe Idealize.SL.Sem
open Cert.ReferenceIdeal Cert.ReferenceIdeal.Gen
open Cert.RowTerms Cert.Words

/-- The start of the slice of one row: the trip counter along the rows, zero along the rest. -/
def startAt (n : IVec S_ 32) : Fin 3 → Int :=
  fun k => (((![n, constantI S_ 32 0#32, constantI S_ 32 0#32] : Fin 3 → IVec S_ 32)) k (Shape.Idx.first h_S_)).toInt

/-- The counter's word at a row number, read signed, is the row number. -/
theorem toInt_ofNat (t : Fin 1024) : (BitVec.ofNat 32 (t : ℕ)).toInt = ((t : ℕ) : Int) := by
  have := t.isLt
  have h : (BitVec.ofNat 32 (t : ℕ)).toNat = t := by rw [BitVec.toNat_ofNat]; omega
  rw [BitVec.toInt_eq_toNat_of_lt (by omega), h]

/-- The clamped start of row `t` along the rows is `t`. -/
theorem clamp_row (t : Fin 1024) :
    Host.clampedStart S1024x4x256 S1x4x256 sliceFits_S1024x4x256_S1x4x256.1 (startAt fun _ => BitVec.ofNat 32 (t : ℕ)) 0 = t := by
  have := t.isLt
  exact Host.clampedStart_of_le _ _ 0 t (toInt_ofNat t) (by show (t : ℕ) + 1 ≤ 1024; omega)

/-- The clamped start along the batch is zero. -/
theorem clamp_batch (n : IVec S_ 32) :
    Host.clampedStart S1024x4x256 S1x4x256 sliceFits_S1024x4x256_S1x4x256.1 (startAt n) 1 = 0 :=
  Host.clampedStart_of_le _ _ 1 0 rfl (by decide)

/-- The clamped start along the channels is zero. -/
theorem clamp_channel (n : IVec S_ 32) :
    Host.clampedStart S1024x4x256 S1x4x256 sliceFits_S1024x4x256_S1x4x256.1 (startAt n) 2 = 0 :=
  Host.clampedStart_of_le _ _ 2 0 rfl (by decide)

/-- The row a trip cuts out of a row-major array. -/
def rowAt (x : FVec Ideal S1024x4x256 .f32) (n : IVec S_ 32) : FVec Ideal S4x256 .f32 :=
  shapeCast S4x256 (Host.dynamicSlice S1x4x256 x (startAt n) sliceFits_S1024x4x256_S1x4x256) shapeCasts_S1x4x256_S4x256

/-- At counter `t` the row cut out is row `t`. -/
theorem rowAt_apply (x : FVec Ideal S1024x4x256 .f32) (t : Fin 1024) (b : Fin 4) (i : Fin 256) :
    rowAt x (fun _ => BitVec.ofNat 32 (t : ℕ)) (ix2 b i) = x (ix3 t b i) := by
  pointwise [rowAt]
  refine congrArg x (funext fun a => Fin.ext ?_)
  match a with
  | ⟨0, _⟩ => exact clamp_row t
  | ⟨1, _⟩ => exact (congrArg (· + b.val) (clamp_batch _)).trans (Nat.zero_add _)
  | ⟨2, _⟩ => exact (congrArg (· + i.val) (clamp_channel _)).trans (Nat.zero_add _)

/-- The new state of a trip: the old one plus the product of the key row with itself. -/
def nextState (S : FVec Ideal S4x256x256 .f32) (k : FVec Ideal S4x256 .f32) : FVec Ideal S4x256x256 .f32 :=
  addf S (mulf (broadcastInDim S4x256x256 ![0, 1, 2] bcast_S4x256x1_S4x256x256_0_1_2 (broadcastInDim S4x256x1 ![0, 1] bcast_S4x256_S4x256x1_0_1 k))
    (broadcastInDim S4x256x256 ![0, 1, 2] bcast_S4x1x256_S4x256x256_0_1_2 (broadcastInDim S4x1x256 ![0, 2] bcast_S4x256_S4x1x256_0_2 k)))

/-- The new state at an index. -/
theorem nextState_apply (S : FVec Ideal S4x256x256 .f32) (k : FVec Ideal S4x256 .f32) (b : Fin 4) (i j : Fin 256) :
    (nextState S k (ix3 b i j) : EReal) = S (ix3 b i j) + k (ix2 b i) * k (ix2 b j) := by
  pointwise [nextState]

/-- The row a trip computes: the normalised state applied to the query row, gated. -/
def outAt (S : FVec Ideal S4x256x256 .f32) (q : FVec Ideal S4x256 .f32) (g o : FVec Ideal S256 .f32) : FVec Ideal S4x256 .f32 :=
  mulf (Host.tanh (mulf (broadcastInDim S4x256 ![0, 1] bcast_S1x256_S4x256_0_1 (broadcastInDim S1x256 ![1] bcast_S256_S1x256_1 g))
      (Host.dotGeneral dot_S4x256x256_S4x256_S4x256_2_1_1_n_0_0 none
        (Host.divf S (broadcastInDim S4x256x256 ![0, 1, 2] bcast_S4x1x1_S4x256x256_0_1_2
          (addf (Host.sqrt (broadcastInDim S4x1x1 ![0] bcast_S4_S4x1x1_0
              (Host.reduceAdd (mulf S S) (constant S_ .f32 0x00000000#32) reducesTo_S4x256x256_S4_d1_2 h_S_)))
            (broadcastInDim S4x1x1 ![] bcast_S_S4x1x1 (constant S_ .f32 0x33D6BF95#32))))) q)))
    (broadcastInDim S4x256 ![0, 1] bcast_S1x256_S4x256_0_1 (broadcastInDim S1x256 ![1] bcast_S256_S1x256_1 o))

/-- That row at an index. -/
theorem outAt_apply (S : FVec Ideal S4x256x256 .f32) (q : FVec Ideal S4x256 .f32) (g o : FVec Ideal S256 .f32) (b : Fin 4) (i : Fin 256) :
    (outAt S q g o (ix2 b i) : EReal)
      = seqOut (fun i j : Fin 256 => S (ix3 b i j)) (fun j => q (ix2 b j)) (eps : EReal) (g (ix1 i)) (o (ix1 i)) i := by
  rw [← ofBits_eps]
  pointwise [outAt, seqOut, sqSum]

/-- An array with one row overwritten. -/
def putRow (Y : FVec Ideal S1024x4x256 .f32) (r : FVec Ideal S4x256 .f32) (n : IVec S_ 32) : FVec Ideal S1024x4x256 .f32 :=
  Host.dynamicUpdateSlice Y (broadcastInDim S1x4x256 ![1, 2] bcast_S4x256_S1x4x256_1_2 r) (startAt n) updateFits_S1024x4x256_S1x4x256

/-- At counter `t` row `t` is the new row and the others are as they were. -/
theorem putRow_apply (Y : FVec Ideal S1024x4x256 .f32) (r : FVec Ideal S4x256 .f32) (t s : Fin 1024) (b : Fin 4) (i : Fin 256) :
    putRow Y r (fun _ => BitVec.ofNat 32 (t : ℕ)) (ix3 s b i) = if s = t then r (ix2 b i) else Y (ix3 s b i) := by
  have h0 := clamp_row t
  have h1 := clamp_batch (fun _ => BitVec.ofNat 32 (t : ℕ))
  have h2 := clamp_channel (fun _ => BitVec.ofNat 32 (t : ℕ))
  pointwise [putRow]
  by_cases e : s = t
  · subst e
    rw [if_pos rfl, dif_pos ⟨⟨h0.le, lt_of_lt_of_eq (Nat.lt_succ_self _) (congrArg (· + 1) h0.symm)⟩, h1.le.trans (Nat.zero_le _), h2.le.trans (Nat.zero_le _)⟩]
    refine congrArg r (funext fun a => Fin.ext ?_)
    match a with
    | ⟨0, _⟩ => exact congrArg (b.val - ·) h1
    | ⟨1, _⟩ => exact congrArg (i.val - ·) h2
  · rw [if_neg e, dif_neg]
    rintro ⟨⟨ha, hb⟩, -⟩
    have ha' := h0.symm.le.trans ha
    have hb' := lt_of_lt_of_eq hb (congrArg (· + 1) h0)
    exact e (Fin.ext (by omega))

end Cert.ReferenceIdeal.Trip

end
-- ==== Proof.RefValue.lean ====
/-
  What the reference's loop computes: before trip `n` the carried state is the state after `n` rows and the first `n`
  rows of the carried result are result 1; so its two results are the results' functions of the argument arrays.
-/
module

public import proofs.«01_k».proof.Proof.RefTrip
public import proofs.«01_k».proof.Proof.Results

@[expose] public section

set_option maxRecDepth 16384

noncomputable section

namespace Cert.ReferenceIdeal.Rows

open Idealize.ShloMosaic Idealize.ShloMosaic.TcCoe Idealize.ShloMosaic.StableHlo Idealize.SL.Sem
open Cert.ReferenceIdeal Cert.ReferenceIdeal.Gen Cert.ReferenceIdeal.Value Cert.ReferenceIdeal.Trip
open Cert.RowTerms Cert.Words Cert.Results

/-- What the loop carries before trip `n`: the argument arrays rows first, the gates, the trip number, the state after `n`
    rows and result 1 on the first `n` rows. -/
structure Carried (Q K : FVec Ideal SRows .f32) (P : FVec Ideal STab .f32) (l o : FVec Ideal SGate .f32) (n : ℕ)
    (V : Valuation τ sig (Elt Ideal)) : Prop where
  query : ∀ (t : Fin 1024) (b : Fin 4) (i : Fin 256), (V (Proc.devRef .tc main_v4_0) : FVec Ideal S1024x4x256 .f32) (ix3 t b i) = Q (ix3 b t i)
  key : ∀ (t : Fin 1024) (b : Fin 4) (i : Fin 256), (V (Proc.devRef .tc main_v4_1) : FVec Ideal S1024x4x256 .f32) (ix3 t b i) = K (ix3 b t i)
  gain : ∀ i : Fin 256, ((V (Proc.devRef .tc main_v4_2) : FVec Ideal S256 .f32) (ix1 i) : EReal) = Ideal.exp (l (ix1 i))
  scale : (V (Proc.devRef .tc main_v4_3) : FVec Ideal S256 .f32) = o
  count : (V (Proc.devRef .tc main_v4_4) : IVec S_ 32) = fun _ => BitVec.ofNat 32 n
  state : ∀ (b : Fin 4) (i j : Fin 256), ((V (Proc.devRef .tc main_v4_5) : FVec Ideal S4x256x256 .f32) (ix3 b i j) : EReal) = Results.state K P b n i j
  rows : ∀ t : Fin 1024, t.val < n → ∀ (b : Fin 4) (i : Fin 256),
    ((V (Proc.devRef .tc main_v4_6) : FVec Ideal S1024x4x256 .f32) (ix3 t b i) : EReal) = entry Q K P l o b t i

/-- The state a trip leaves is the next state of the one before it and the key row it cuts out. -/
theorem newState_eq (V : Valuation τ sig (Elt Ideal)) :
    res_main_while0b_v13 V = nextState (V (Proc.devRef .tc main_v4_5)) (rowAt (V (Proc.devRef .tc main_v4_1)) (V (Proc.devRef .tc main_v4_4))) := rfl

/-- The result a trip leaves is the one before it with the computed row written at the trip's number. -/
theorem newRows_eq (V : Valuation τ sig (Elt Ideal)) :
    step_main_v4_6 V = putRow (V (Proc.devRef .tc main_v4_6))
      (outAt (res_main_while0b_v13 V) (rowAt (V (Proc.devRef .tc main_v4_0)) (V (Proc.devRef .tc main_v4_4)))
        (V (Proc.devRef .tc main_v4_2)) (V (Proc.devRef .tc main_v4_3)))
      (V (Proc.devRef .tc main_v4_4)) := rfl

/-- One trip carries on: what holds before trip `n` holds, one row on, after it. -/
theorem Carried.trip {Q K : FVec Ideal SRows .f32} {P : FVec Ideal STab .f32} {l o : FVec Ideal SGate .f32} {n : ℕ} (hn : n < 1024)
    {V : Valuation τ sig (Elt Ideal)} (h : Carried Q K P l o n V) : Carried Q K P l o (n + 1) (STEP V) := by
  have hS : ∀ (b : Fin 4) (i j : Fin 256), ((res_main_while0b_v13 V : FVec Ideal S4x256x256 .f32) (ix3 b i j) : EReal) = Results.state K P b (n + 1) i j := by
    intro b i j
    have hk : ∀ i : Fin 256, rowAt (V (Proc.devRef .tc main_v4_1)) (V (Proc.devRef .tc main_v4_4)) (ix2 b i) = row K b n i := fun i => by
      rw [h.count, row_of_lt _ _ hn]
      exact (rowAt_apply _ ⟨n, hn⟩ b i).trans (h.key ⟨n, hn⟩ b i)
    rw [newState_eq, nextState_apply, hk, hk, h.state]
    exact (stateAt_succ _ _ n i j).symm
  refine ⟨?_, ?_, ?_, ?_, ?_, ?_, ?_⟩
  · rw [STEP_main_v4_0]; exact h.query
  · rw [STEP_main_v4_1]; exact h.key
  · rw [STEP_main_v4_2]; exact h.gain
  · rw [STEP_main_v4_3]; exact h.scale
  · rw [STEP_main_v4_4]
    show addi (V (Proc.devRef .tc main_v4_4) : IVec S_ 32) (constantI S_ 32 1#32) = _
    rw [h.count]
    funext y
    exact (BitVec.ofNat_add n 1).symm
  · rw [STEP_main_v4_5]; exact hS
  · intro t ht b i
    rw [STEP_main_v4_6, newRows_eq, h.count]
    refine (putRow_apply _ _ ⟨n, hn⟩ t b i).trans ?_
    by_cases e : t = ⟨n, hn⟩
    · subst e
      rw [if_pos rfl]
      refine (outAt_apply _ _ _ _ b i).trans (seqOut_congr (hS b) (fun j => ?_) (h.gain i) (congrFun h.scale (ix1 i)))
      rw [row_of_lt _ _ hn]
      exact (rowAt_apply _ ⟨n, hn⟩ b j).trans (h.query ⟨n, hn⟩ b j)
    · rw [if_neg e]
      exact h.rows t (lt_of_le_of_ne (Nat.lt_succ_iff.mp ht) fun he => e (Fin.ext he)) b i

variable (m : (ℓ : Loc nD τ sig) → Buf (Elt Ideal) ℓ) (c : Dev nD)

/-- The five argument arrays of a device. -/
abbrev argQ : FVec Ideal SRows .f32 := m ((c : Thread nD τ).loc main_arg0)
abbrev argK : FVec Ideal SRows .f32 := m ((c : Thread nD τ).loc main_arg1)
abbrev argP : FVec Ideal STab .f32 := m ((c : Thread nD τ).loc main_arg2)
abbrev argL : FVec Ideal SGate .f32 := m ((c : Thread nD τ).loc main_arg3)
abbrev argO : FVec Ideal SGate .f32 := m ((c : Thread nD τ).loc main_arg4)

/-- The contents the loop starts from. -/
abbrev start : Valuation τ sig (Elt Ideal) := entryContents preI m c

set_option maxRecDepth 65536 in
set_option maxHeartbeats 300000 in
/-- The loop starts with the queries rows first. -/
theorem start_query : (start m c (Proc.devRef .tc main_v4_0) : FVec Ideal S1024x4x256 .f32)
    = transpose S1024x4x256 [1, 0, 2] (argQ m c) transposes_S4x1024x256_S1024x4x256_1_0_2 := by
  simp only [start, entryContents, afterL_cons, afterL_nil]; after_reads_simp; rfl

set_option maxRecDepth 65536 in
set_option maxHeartbeats 300000 in
/-- The loop starts with the keys rows first. -/
theorem start_key : (start m c (Proc.devRef .tc main_v4_1) : FVec Ideal S1024x4x256 .f32)
    = transpose S1024x4x256 [1, 0, 2] (argK m c) transposes_S4x1024x256_S1024x4x256_1_0_2 := by
  simp only [start, entryContents, afterL_cons, afterL_nil]; after_reads_simp; rfl

set_option maxRecDepth 65536 in
set_option maxHeartbeats 300000 in
/-- The loop starts with the exponential of the log gain. -/
theorem start_gain : (start m c (Proc.devRef .tc main_v4_2) : FVec Ideal S256 .f32) = Host.exp (argL m c) := by
  simp only [start, entryContents, afterL_cons, afterL_nil]; after_reads_simp; rfl

set_option maxRecDepth 65536 in
set_option maxHeartbeats 300000 in
/-- The loop starts with the output scale. -/
theorem start_scale : (start m c (Proc.devRef .tc main_v4_3) : FVec Ideal S256 .f32) = argO m c := by
  simp only [start, entryContents, afterL_cons, afterL_nil]; after_reads_simp; rfl

set_option maxRecDepth 65536 in
set_option maxHeartbeats 300000 in
/-- The loop starts with the initial table. -/
theorem start_table : (start m c (Proc.devRef .tc main_v4_5) : FVec Ideal S4x256x256 .f32) = argP m c := by
  simp only [start, entryContents, afterL_cons, afterL_nil]; after_reads_simp; rfl

/-- What the loop carries at its start. -/
theorem carried_start : Carried (argQ m c) (argK m c) (argP m c) (argL m c) (argO m c) 0 (start m c) := by
  refine ⟨fun t b i => ?_, fun t b i => ?_, fun i => ?_, start_scale m c, ctr_entry m c, fun b i j => ?_, fun t ht => absurd ht (Nat.not_lt_zero _)⟩
  · rw [start_query]; pointwise
  · rw [start_key]; pointwise
  · rw [start_gain]; pointwise
  · rw [start_table]; exact (stateAt_zero (tab (argP m c) b) (row (argK m c) b) i j).symm

/-- What the loop carries before trip `n`. -/
theorem carried : ∀ n, n ≤ 1024 → Carried (argQ m c) (argK m c) (argP m c) (argL m c) (argO m c) n (STEP^[n] (start m c))
  | 0, _ => carried_start m c
  | n + 1, h => by
    rw [Function.iterate_succ_apply']
    exact (carried n (Nat.le_of_succ_le h)).trip h

/-- The reference's first result is result 1. -/
theorem out_eq : out_main_v5 (STEP^[1024] (start m c)) = out (argQ m c) (argK m c) (argP m c) (argL m c) (argO m c) := by
  have h := (carried m c 1024 le_rfl).rows
  funext y
  obtain ⟨b, t, i, rfl⟩ : ∃ (b : Fin 4) (t : Fin 1024) (i : Fin 256), y = ix3 b t i := ⟨_, _, _, eq_ix3 y⟩
  refine Eq.trans ?_ (h t t.isLt b i)
  pointwise [out_main_v5]

/-- The reference's second result is result 2. -/
theorem final_eq : (STEP^[1024] (start m c)) (Proc.devRef .tc main_v4_5) = final (argK m c) (argP m c) := by
  have h := (carried m c 1024 le_rfl).state
  funext y
  obtain ⟨b, i, j, rfl⟩ : ∃ (b : Fin 4) (i j : Fin 256), y = ix3 b i j := ⟨_, _, _, eq_ix3 y⟩
  exact h b i j

end Cert.ReferenceIdeal.Rows

end
-- ==== Proof.FiniteQueries.lean ====
/-
  The precondition, read: where the comparison `|q| < ∞` is one at every entry, every query is a real number.
-/
module

public import proofs.«01_k».proof.Pre_finite
public import proofs.«01_k».proof.Proof.RealEntries
public import proofs.«01_k».proof.Proof.Words
public import Idealize.ShloMosaic.Lib.Pointwise

@[expose] public section

set_option maxRecDepth 16384

noncomputable section

namespace Cert.FiniteQueries

open Idealize.ShloMosaic Cert.RealEntries Cert.Words

/-- The side condition the precondition's program states. -/
theorem facts : Cert.Pre_finite.Facts := ⟨by decide⟩

/-- An extended real whose absolute value is below infinity is a real number. -/
theorem isReal_of_abs_lt {x : EReal} (h : max x (-x) < ⊤) : IsReal x := by
  refine isReal_of_ne ?_ ?_
  · rintro rfl
    exact absurd h (by simp)
  · rintro rfl
    exact absurd h (by simp)

/-- Under the precondition every query is a real number. -/
theorem queries_real [Cert.Pre_finite.Facts] (q k : FVec Ideal Cert.Pre_finite.S4x1024x256 .f32) (P : FVec Ideal Cert.Pre_finite.S4x256x256 .f32)
    (l o : FVec Ideal Cert.Pre_finite.S256 .f32) (h : Cert.Pre_finite.fn (F := Ideal) q k P l o = fun _ => 1#1)
    (i : Cert.Pre_finite.S4x1024x256.Idx) : IsReal (q i) := by
  have hi := congrFun h i
  obtain ⟨b, t, j, rfl⟩ : ∃ (b : Fin 4) (t : Fin 1024) (j : Fin 256), i = ix3 b t j := ⟨_, _, _, eq_ix3 i⟩
  pointwise [Cert.Pre_finite.fn] at hi
  rw [ofBits_inf] at hi
  refine isReal_of_abs_lt (of_not_not fun hn => ?_)
  have hd : decide ((FloatOps.absf (q (ix3 b t j)) : EReal) < ⊤) = false := decide_eq_false hn
  rw [hd] at hi
  exact absurd hi (by decide)

end Cert.FiniteQueries

end
-- ==== Proof.lean ====
/-
  The proof of `Cert.Claim`: the kernel and its reading at the extended reals run and leave their arguments as they were, so
  does the reference, and for finite queries the two compute equal results.  Each side's two results are shown to be the
  same functions of the argument arrays (`Cert.Results.out` and `Cert.Results.final`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelArray
public import proofs.«01_k».proof.Proof.RefValue
public import proofs.«01_k».proof.Proof.FiniteQueries
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.FiniteQueries.facts

/-- The kernel runs, leaves its arguments as they were and every semaphore at zero. -/
theorem kernel_frame : Cert.quiescent_Kernel := fun m ρ _ => Cert.Kernel.Gen.frame m ρ

/-- The kernel at the extended reals runs, leaves its arguments as they were and every semaphore at zero. -/
theorem ideal_frame : Cert.quiescent_KernelIdeal := fun m ρ _ => Cert.KernelIdeal.Gen.frame m ρ

/-- So it does for finite queries. -/
theorem ideal_frame_finite : Cert.quiescent_KernelIdeal_pre_finite := fun m ρ _ => Cert.KernelIdeal.Gen.frame m ρ

/-- The reference runs, leaves its arguments as they were and every semaphore at zero. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- So it does for finite queries. -/
theorem reference_frame_finite : Cert.quiescent_ReferenceIdeal_pre_finite := fun m ρ _ => reference_frame m ρ trivial

/-- For finite queries the kernel at the extended reals and the reference end with equal results, both of them. -/
theorem results_equal : Cert.algebraic_KernelIdeal_ReferenceIdeal_pre_finite := by
  intro m ρ m' ρ' hpre hargs
  have hq : ∀ c i, Cert.RealEntries.IsReal (Cert.KernelIdeal.Arrays.argQ m c i) := fun c i =>
    Cert.FiniteQueries.queries_real _ _ _ _ _ (hpre c) i
  refine ⟨fun c => Cert.Results.out (Cert.KernelIdeal.Arrays.argQ m c) (Cert.KernelIdeal.Arrays.argK m c) (Cert.KernelIdeal.Arrays.argP m c)
      (Cert.KernelIdeal.Arrays.argL m c) (Cert.KernelIdeal.Arrays.argO m c),
    fun c => Cert.Results.final (Cert.KernelIdeal.Arrays.argK m c) (Cert.KernelIdeal.Arrays.argP m c), ?_, ?_⟩
  · refine (θ_run Cert.KernelIdeal.defs _ _).mono (fun r h c => ?_) (Cert.KernelIdeal.Value.run_blocks (F := Ideal) m ρ)
    obtain ⟨h5, h6, hrest⟩ := h c
    exact ⟨h5.trans (Cert.KernelIdeal.Arrays.out_array m c (hq c)), h6.trans (Cert.KernelIdeal.Arrays.state_array m c), hrest⟩
  · refine (θ_run Cert.ReferenceIdeal.defs _ _).mono (fun r h c => ?_) (Cert.ReferenceIdeal.Value.run (F := Ideal) m' ρ')
    obtain ⟨h5, h6, hrest⟩ := h c
    obtain ⟨a0, a1, a2, a3, a4⟩ := hargs c
    refine ⟨(h5.trans (Cert.ReferenceIdeal.Rows.out_eq m' c)).trans ?_, (h6.trans (Cert.ReferenceIdeal.Rows.final_eq m' c)).trans ?_, hrest⟩
    · show Cert.Results.out (Cert.ReferenceIdeal.Rows.argQ m' c) (Cert.ReferenceIdeal.Rows.argK m' c) (Cert.ReferenceIdeal.Rows.argP m' c)
        (Cert.ReferenceIdeal.Rows.argL m' c) (Cert.ReferenceIdeal.Rows.argO m' c) = _
      unfold Cert.ReferenceIdeal.Rows.argQ Cert.ReferenceIdeal.Rows.argK Cert.ReferenceIdeal.Rows.argP Cert.ReferenceIdeal.Rows.argL
        Cert.ReferenceIdeal.Rows.argO
      rw [a0, a1, a2, a3, a4]
    · show Cert.Results.final (Cert.ReferenceIdeal.Rows.argK m' c) (Cert.ReferenceIdeal.Rows.argP m' c) = _
      unfold Cert.ReferenceIdeal.Rows.argK Cert.ReferenceIdeal.Rows.argP
      rw [a1, a2]

/-- Every claim of the certificate. -/
theorem claim : Cert.Claim :=
  ⟨Cert.Kernel.Gen.facts, Cert.KernelIdeal.Gen.facts, Cert.ReferenceIdeal.Gen.facts, Cert.FiniteQueries.facts,
    kernel_frame, ideal_frame, ideal_frame_finite, reference_frame, reference_frame_finite, trivial, results_equal⟩

end Cert.Proof

end
